-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x1536 : Shape := ⟨3, ![3, 6144, 1536]⟩
abbrev S3x6144x1 : Shape := ⟨3, ![3, 6144, 1]⟩
abbrev S1536x1280 : Shape := ⟨2, ![1536, 1280]⟩
abbrev S1280 : Shape := ⟨1, ![1280]⟩
abbrev S18432x1536 : Shape := ⟨2, ![18432, 1536]⟩
abbrev S1x18432 : Shape := ⟨2, ![1, 18432]⟩
abbrev S18432x1280 : Shape := ⟨2, ![18432, 1280]⟩
abbrev S1024x1536 : Shape := ⟨2, ![1024, 1536]⟩
abbrev S1x1024 : Shape := ⟨2, ![1, 1024]⟩
abbrev S1024x1280 : Shape := ⟨2, ![1024, 1280]⟩
abbrev S1x128 : Shape := ⟨2, ![1, 128]⟩
abbrev S128x128 : Shape := ⟨2, ![128, 128]⟩
abbrev S1024x128 : Shape := ⟨2, ![1024, 128]⟩
abbrev S1x1280 : Shape := ⟨2, ![1, 1280]⟩
abbrev S3x6144x1280 : Shape := ⟨3, ![3, 6144, 1280]⟩

abbrev nBuf : Space → Nat
  | .hbm => 8
  | .vmem => 8
  | .smem => 0
  | _ => 0

abbrev bufTy : (tb : Table) → Fin (tcTables nBuf tb) → BufTy
  | .hbm, ⟨0, _⟩ => ⟨S3x6144x1536, .fp8e4m3⟩
  | .hbm, ⟨1, _⟩ => ⟨S3x6144x1, .f32⟩
  | .hbm, ⟨2, _⟩ => ⟨S1536x1280, .fp8e4m3⟩
  | .hbm, ⟨3, _⟩ => ⟨S1280, .f32⟩
  | .hbm, ⟨4, _⟩ => ⟨S18432x1536, .fp8e4m3⟩
  | .hbm, ⟨5, _⟩ => ⟨S1x18432, .f32⟩
  | .hbm, ⟨6, _⟩ => ⟨S18432x1280, .bf16⟩
  | .hbm, ⟨7, _⟩ => ⟨S3x6144x1280, .bf16⟩
  | .local _ .vmem, ⟨0, _⟩ => ⟨S1024x1536, .fp8e4m3⟩
  | .local _ .vmem, ⟨1, _⟩ => ⟨S1024x1536, .fp8e4m3⟩
  | .local _ .vmem, ⟨2, _⟩ => ⟨S1x1024, .f32⟩
  | .local _ .vmem, ⟨3, _⟩ => ⟨S1x1024, .f32⟩
  | .local _ .vmem, ⟨4, _⟩ => ⟨S1536x1280, .fp8e4m3⟩
  | .local _ .vmem, ⟨5, _⟩ => ⟨S1280, .f32⟩
  | .local _ .vmem, ⟨6, _⟩ => ⟨S1024x1280, .bf16⟩
  | .local _ .vmem, ⟨7, _⟩ => ⟨S1024x1280, .bf16⟩
  | _, _ => ⟨S3x6144x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S3x6144x1536 : Shape := ⟨3, ![3, 6144, 1536]⟩
abbrev S3x6144x1 : Shape := ⟨3, ![3, 6144, 1]⟩
abbrev S1536x1280 : Shape := ⟨2, ![1536, 1280]⟩
abbrev S1280 : Shape := ⟨1, ![1280]⟩
abbrev S3x6144x1280 : Shape := ⟨3, ![3, 6144, 1280]⟩
abbrev S1x1x1280 : Shape := ⟨3, ![1, 1, 1280]⟩

abbrev nBuf : Space → Nat
  | .hbm => 5
  | .vmem => 5
  | .smem => 0
  | _ => 0

abbrev bufTy : (tb : Table) → Fin (tcTables nBuf tb) → BufTy
  | .hbm, ⟨0, _⟩ => ⟨S3x6144x1536, .fp8e4m3⟩
  | .hbm, ⟨1, _⟩ => ⟨S3x6144x1, .f32⟩
  | .hbm, ⟨2, _⟩ => ⟨S1536x1280, .fp8e4m3⟩
  | .hbm, ⟨3, _⟩ => ⟨S1280, .f32⟩
  | .hbm, ⟨4, _⟩ => ⟨S3x6144x1280, .bf16⟩
  | .local _ .vmem, ⟨0, _⟩ => ⟨S3x6144x1536, .fp8e4m3⟩
  | .local _ .vmem, ⟨1, _⟩ => ⟨S3x6144x1, .f32⟩
  | .local _ .vmem, ⟨2, _⟩ => ⟨S1536x1280, .fp8e4m3⟩
  | .local _ .vmem, ⟨3, _⟩ => ⟨S1280, .f32⟩
  | .local _ .vmem, ⟨4, _⟩ => ⟨S3x6144x1280, .bf16⟩
  | _, _ => ⟨S3x6144x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x6144x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x6144x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/-
  What one grid point of the kernel computes, over the extended reals: the block that its body stores holds, at row `r` and
  column `c`, the dot product of row `r` of the point's rows of `x` with column `c` of `w`, times the row's scale, times the
  column's scale. The kernel lays its row scales out as a matrix of columns by transposing broadcast rows and concatenating
  the results; the concatenations are read back here.
-/
module

public import proofs.«01_k».proof.Proof.Gen.KernelIdeal.Frame
public import Idealize.ShloMosaic.PureOps.Ideal
public import Idealize.ShloMosaic.Lib.Pipeline.Value
public import Idealize.ShloMosaic.Lib.Pointwise

@[expose] public section

set_option maxRecDepth 16384

noncomputable section

namespace Cert.KernelIdeal.Block

open Cert.KernelIdeal Cert.KernelIdeal.Gen Idealize.ShloMosaic Idealize.SL.Sem

/-- The 128 row scales of chunk `n` of a block's 1024, as the kernel loads them: a row of 128 lanes. -/
def chunk (x1 : Vec Ideal S1x1024 .f32) (n : Fin 8) : Vec Ideal S1x128 .f32 :=
  fun i => x1 (ix2 0 ⟨128 * n.val + (i 1).val, by have h : (i 1).val < 128 := (i 1).isLt; have := n.isLt; omega⟩)

/-- A row of scales broadcast to 128 rows and transposed: every column of the result is the row. -/
theorem column_apply (v : Vec Ideal S1x128 .f32) (r c : Fin 128) : k0_pay3 (F := Ideal) v (ix2 r c) = v (ix2 0 r) := by
  pointwise [k0_pay3]

/-- A load of 128 of the 1024 row scales from lane `128 n` on is chunk `n`. -/
theorem ld_chunk (x1 : Vec Ideal S1x1024 .f32) (n : Fin 8) (off : Nat) (hoff : off = 128 * n.val)
    (h : ∀ a, (![0, off] : Fin 2 → Nat) a + S1x128.size a ≤ S1x1024.size a) :
    View.ld x1 (Rect.unit (s := S1x1024) ![0, off] S1x128.size h) = chunk x1 n := by
  subst hoff
  funext i
  refine congrArg x1 (funext fun a => Fin.ext ?_)
  match a with
  | ⟨0, _⟩ => have h0 : (i 0).val < 1 := (i 0).isLt; show 0 + 1 * (i 0).val = 0; omega
  | ⟨1, _⟩ => show 128 * n.val + 1 * (i 1).val = 128 * n.val + (i 1).val; omega

/-- The eight columns, stacked: at row `r` the block's scale `r`, whatever the lane. -/
theorem stack_apply (x1 : Vec Ideal S1x1024 .f32) (h) (r : Fin 1024) (c : Fin 128) :
    concatenate S1024x128 0 (List.ofFn fun n : Fin 8 => ⟨S128x128, k0_pay3 (F := Ideal) (chunk x1 n)⟩) h (ix2 r c) = x1 (ix2 0 r) := by
  have hr := r.isLt
  rw [concatenate_ofFn_apply (t := S1024x128) (s₁ := S128x128) (0 : Fin 2) (fun n => k0_pay3 (F := Ideal) (chunk x1 n)) h rfl 128 rfl
    (ix2 r c) ⟨r.val / 128, by omega⟩ rfl (ix2 ⟨r.val % 128, by omega⟩ c) rfl
    (fun b hb => by match b with | ⟨0, _⟩ => exact absurd rfl hb | ⟨1, _⟩ => rfl), column_apply]
  refine congrArg x1 (funext fun a => Fin.ext ?_)
  match a with
  | ⟨0, _⟩ => rfl
  | ⟨1, _⟩ => show 128 * (r.val / 128) + r.val % 128 = r.val; omega

/-- Ten copies of a 1024 × 128 array side by side: at column `c` the array's lane `c mod 128`. -/
theorem tile_apply (v : Vec Ideal S1024x128 .f32) (h) (r : Fin 1024) (c : Fin 1280) :
    concatenate S1024x1280 1 (List.ofFn fun _ : Fin 10 => ⟨S1024x128, v⟩) h (ix2 r c) = v (ix2 r ⟨c.val % 128, by omega⟩) := by
  have hc := c.isLt
  exact concatenate_ofFn_apply (t := S1024x1280) (s₁ := S1024x128) (1 : Fin 2) (fun _ => v) h rfl 128 rfl
    (ix2 r c) ⟨c.val / 128, by omega⟩ rfl (ix2 r ⟨c.val % 128, by omega⟩) rfl
    (fun b hb => by match b with | ⟨0, _⟩ => rfl | ⟨1, _⟩ => exact absurd rfl hb)

/-- The matrix of row scales that the kernel multiplies by. -/
def scales (x1 : Vec Ideal S1x1024 .f32) : Vec Ideal S1024x1280 .f32 :=
  concatenate S1024x1280 1 (List.ofFn fun _ : Fin 10 => ⟨S1024x128,
    concatenate S1024x128 0 (List.ofFn fun n : Fin 8 => ⟨S128x128, k0_pay3 (F := Ideal) (chunk x1 n)⟩)
      concatenates_S128x128_S128x128_S128x128_S128x128_S128x128_S128x128_S128x128_S128x128_S1024x128_d0⟩)
    concatenates_S1024x128_S1024x128_S1024x128_S1024x128_S1024x128_S1024x128_S1024x128_S1024x128_S1024x128_S1024x128_S1024x1280_d1

/-- Its row `r` is the block's scale `r` throughout. -/
theorem scales_apply (x1 : Vec Ideal S1x1024 .f32) (r : Fin 1024) (c : Fin 1280) : scales x1 (ix2 r c) = x1 (ix2 0 r) :=
  (tile_apply _ _ r c).trans (stack_apply x1 _ r _)

/-- The body's stored value, with its row scales named: the block product times `scales` times the column scales. -/
def stored (x0 : Vec Ideal S1024x1536 .fp8e4m3) (x1 : Vec Ideal S1x1024 .f32) (x2 : Vec Ideal S1536x1280 .fp8e4m3)
    (x3 : Vec Ideal S1280 .f32) : Vec Ideal S1024x1280 .bf16 :=
  truncf .bf16 (mulf (mulf (k0_pay2 (F := Ideal) x0 x2) (scales x1))
    (broadcastTo S1024x1280 (shapeCast S1x1280 x3 shapeCasts_S1280_S1x1280) broadcasts_S1x1280_S1024x1280)) bitsLt_bf16_f32

theorem hz2 : (![0, 0] : Fin 2 → Nat) = fun _ => 0 := funext fun a => by fin_cases a <;> rfl
theorem hz1 : (![0] : Fin 1 → Nat) = fun _ => 0 := funext fun a => by fin_cases a <;> rfl

/-- What the body leaves in the output's buffer is `stored` of its input blocks. -/
theorem out_eq (x0 : Vec Ideal S1024x1536 .fp8e4m3) (x1 : Vec Ideal S1x1024 .f32) (x2 : Vec Ideal S1536x1280 .fp8e4m3)
    (x3 : Vec Ideal S1280 .f32) : out0_4 (F := Ideal) x0 x1 x2 x3 = stored x0 x1 x2 x3 := by
  unfold out0_4
  rw [View.canon_unit_zero hz2, View.ld_unit_zero (S := S1024x1536) hz2 _ x0, View.ld_unit_zero (S := S1536x1280) hz2 _ x2,
    View.ld_unit_zero (S := S1280) hz1 _ x3,
    ld_chunk x1 0 0 rfl, ld_chunk x1 1 128 rfl, ld_chunk x1 2 256 rfl, ld_chunk x1 3 384 rfl,
    ld_chunk x1 4 512 rfl, ld_chunk x1 5 640 rfl, ld_chunk x1 6 768 rfl, ld_chunk x1 7 896 rfl]
  rfl

/-- Over the extended reals the stored block holds, at row `r` and column `c`, the dot product of row `r` of the point's
    rows with column `c` of the weights, times the row's scale, times the column's scale. -/
theorem out_apply (x0 : Vec Ideal S1024x1536 .fp8e4m3) (x1 : Vec Ideal S1x1024 .f32) (x2 : Vec Ideal S1536x1280 .fp8e4m3)
    (x3 : Vec Ideal S1280 .f32) (r : Fin 1024) (c : Fin 1280) :
    out0_4 (F := Ideal) x0 x1 x2 x3 (ix2 r c)
      = ((∑ k : Fin 1536, (x0 (ix2 r k) : EReal) * (x2 (ix2 k c) : EReal)) * (x1 (ix2 0 r) : EReal)) * (x3 (ix1 c) : EReal) := by
  rw [out_eq, stored]
  pointwise [k0_pay2, scales_apply]

end Cert.KernelIdeal.Block

end
-- ==== Proof.Linear.lean ====
/-
  The function that both programs compute, over the extended reals: the fp8 linear layer with one scale per token and one per
  output channel. The result at batch `b`, token `s` and channel `n` is `(∑ k, x[b, s, k] · w[k, n]) · x_scale[b, s, 0] ·
  w_scale[n]`. `flat` is the same over the 18432 tokens of the three sequences laid end to end, and `flat_unfold` says that
  flattening the tokens, taking `flat` and unflattening the result gives `linear`.
-/
module

public import Idealize.ShloMosaic.PureOps.Ideal
public import Idealize.ShloMosaic.Lib.Pointwise

@[expose] public section

set_option maxRecDepth 16384

noncomputable section

namespace Cert.Linear

open Idealize.ShloMosaic

abbrev SX : Shape := ⟨3, ![3, 6144, 1536]⟩
abbrev SXs : Shape := ⟨3, ![3, 6144, 1]⟩
abbrev SW : Shape := ⟨2, ![1536, 1280]⟩
abbrev SWs : Shape := ⟨1, ![1280]⟩
abbrev SY : Shape := ⟨3, ![3, 6144, 1280]⟩
abbrev FX : Shape := ⟨2, ![18432, 1536]⟩
abbrev FXs : Shape := ⟨2, ![1, 18432]⟩
abbrev FY : Shape := ⟨2, ![18432, 1280]⟩

/-- The scaled product at batch `i 0`, token `i 1` and channel `i 2`. -/
def linear (x : Vec Ideal SX .fp8e4m3) (xs : Vec Ideal SXs .f32) (w : Vec Ideal SW .fp8e4m3) (ws : Vec Ideal SWs .f32) :
    Vec Ideal SY .bf16 :=
  fun i => ((∑ k : Fin 1536, (x (ix3 (i 0) (i 1) k) : EReal) * (w (ix2 k (i 2)) : EReal)) * (xs (ix3 (i 0) (i 1) 0) : EReal))
    * (ws (ix1 (i 2)) : EReal)

/-- The scaled product over flattened tokens, at token `i 0` and channel `i 1`. -/
def flat (x : Vec Ideal FX .fp8e4m3) (xs : Vec Ideal FXs .f32) (w : Vec Ideal SW .fp8e4m3) (ws : Vec Ideal SWs .f32) :
    Vec Ideal FY .bf16 :=
  fun i => ((∑ k : Fin 1536, (x (ix2 (i 0) k) : EReal) * (w (ix2 k (i 1)) : EReal)) * (xs (ix2 0 (i 0)) : EReal))
    * (ws (ix1 (i 1)) : EReal)

/-- Flattening the tokens, the flat scaled product, and unflattening give the scaled product. -/
theorem flat_unfold (x : Vec Ideal SX .fp8e4m3) (xs : Vec Ideal SXs .f32) (w : Vec Ideal SW .fp8e4m3) (ws : Vec Ideal SWs .f32)
    (hx hs hy) : shapeCast SY (flat (shapeCast FX x hx) (shapeCast FXs xs hs) w ws) hy = linear x xs w ws := by
  funext i
  idx_vars i
  have h0 := i0.isLt
  have h1 := i1.isLt
  have e0 : (i0.val * 6144 + i1.val) / 6144 = i0.val := by omega
  have e1 : (i0.val * 6144 + i1.val) % 6144 = i1.val := by omega
  pointwise [flat, linear]

end Cert.Linear

end
-- ==== Proof.Array.lean ====
/-
  What the kernel's whole run leaves: the array of its pallas_call is the flat scaled product of the flattened tokens, block by
  block of 1024 tokens, and the result, unflattened by the host's last reshape, is the scaled product of the arguments.
-/
module

public import proofs.«01_k».proof.Proof.Block
public import proofs.«01_k».proof.Proof.Linear
public import Idealize.ShloMosaic.Lib.Tactic

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The windows' block indices at grid point `t`: the tokens' windows stand at block `t`, the weights' at their whole arrays. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ win0_3.index t (0 : Fin 1) = 0
    ∧ (win0_4.index t (0 : Fin 2) = t.val ∧ win0_4.index t (1 : Fin 2) = 0) :=
  (by decide +kernel : ∀ t : Fin grid0.N, _)

/-- Token `r` of block `t` is a token of the 18432. -/
theorem row_lt (t : Fin cfg0.N) (r : Fin 1024) : t.val * 1024 + r.val < 18432 := by
  have h : cfg0.N = 18 := N_0
  have := t.isLt; have := r.isLt; omega

/-- The tokens' block at point `t` holds tokens `1024 t` onwards. -/
theorem block0 (c : Dev nD) (t : Fin cfg0.N) (r : Fin 1024) (k : Fin 1536) :
    iblk m c 0 t (ix2 r k) = V m c main_v0 (ix2 ⟨t.val * 1024 + r.val, row_lt t r⟩ k) := by
  obtain ⟨⟨e0, e1⟩, -⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = t.val * 1024 + r.val; omega
  | ⟨1, _⟩ => show win0_0.index t (1 : Fin 2) * 1536 + 1 * k.val = k.val; omega

/-- The token scales' block at point `t` holds those of tokens `1024 t` onwards. -/
theorem block1 (c : Dev nD) (t : Fin cfg0.N) (r : Fin 1024) :
    iblk m c 1 t (ix2 0 r) = V m c main_v1 (ix2 0 ⟨t.val * 1024 + r.val, row_lt t r⟩) := by
  obtain ⟨-, ⟨e0, e1⟩, -⟩ := idx_facts t
  show V m c main_v1 (((cfg0.win 1).blk t).view.emb (ix2 0 r)) = _
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * r.val = t.val * 1024 + r.val; omega

/-- The weights' block is the weights. -/
theorem block2 (c : Dev nD) (t : Fin cfg0.N) (k : Fin 1536) (n : Fin 1280) :
    iblk m c 2 t (ix2 k n) = V m c main_arg2 (ix2 k n) := by
  obtain ⟨-, -, ⟨e0, e1⟩, -⟩ := idx_facts t
  show V m c main_arg2 (((cfg0.win 2).blk t).view.emb (ix2 k n)) = _
  refine congrArg (V m c main_arg2) (funext fun a => Fin.ext ?_)
  match a with
  | ⟨0, _⟩ => show win0_2.index t (0 : Fin 2) * 1536 + 1 * k.val = k.val; omega
  | ⟨1, _⟩ => show win0_2.index t (1 : Fin 2) * 1280 + 1 * n.val = n.val; omega

/-- The channel scales' block is the channel scales. -/
theorem block3 (c : Dev nD) (t : Fin cfg0.N) (n : Fin 1280) : iblk m c 3 t (ix1 n) = V m c main_arg3 (ix1 n) := by
  obtain ⟨-, -, -, e0, -⟩ := idx_facts t
  show V m c main_arg3 (((cfg0.win 3).blk t).view.emb (ix1 n)) = _
  refine congrArg (V m c main_arg3) (funext fun a => Fin.ext ?_)
  match a with
  | ⟨0, _⟩ => show win0_3.index t (0 : Fin 1) * 1280 + 1 * n.val = n.val; omega

/-- Element `(r, n)` of the output's block at point `t` is the array's at token `1024 t + r`, channel `n`. -/
theorem emb4 (t : Fin cfg0.N) (r : Fin 1024) (n : Fin 1280) :
    ((cfg0.win 4).blk t).view.emb (ix2 r n) = (ix2 ⟨t.val * 1024 + r.val, row_lt t r⟩ n : S18432x1280.Idx) := by
  obtain ⟨-, -, -, -, e0, e1⟩ := idx_facts t
  refine funext fun a => Fin.ext ?_
  match a with
  | ⟨0, _⟩ => show win0_4.index t (0 : Fin 2) * 1024 + 1 * r.val = t.val * 1024 + r.val; omega
  | ⟨1, _⟩ => show win0_4.index t (1 : Fin 2) * 1280 + 1 * n.val = n.val; omega

/-- The flat scaled product of what the pallas_call is given: its result. -/
abbrev flatOf (c : Dev nD) : Vec Ideal S18432x1280 .bf16 :=
  Linear.flat (V m c main_v0) (V m c main_v1) (V m c main_arg2) (V m c main_arg3)

/-- What point `t` writes back is its block of the flat scaled product. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  funext j
  obtain ⟨r, n, rfl⟩ : ∃ (r : Fin 1024) (n : Fin 1280), j = ix2 r n := ⟨j 0, j 1, eq_ix2 j⟩
  show out0_4 (F := Ideal) (iblk m c 0 t) (iblk m c 1 t) (iblk m c 2 t) (iblk m c 3 t) (ix2 r n)
    = flatOf m c (((cfg0.win 4).blk t).view.emb (ix2 r n))
  rw [emb4, Block.out_apply, block1, block3]
  simp only [block0, block2]
  rfl

/-- Every element of the array is in the block of the point that its token falls to. -/
theorem covered (i : S18432x1280.Idx) :
    ∃ t : Fin cfg0.N, (cfg0.win 4).flush t = true ∧ i ∈ ((cfg0.win 4).blk t).view.set := by
  obtain ⟨a, n, rfl⟩ : ∃ (a : Fin 18432) (n : Fin 1280), i = ix2 a n := ⟨i 0, i 1, eq_ix2 i⟩
  have ha := a.isLt
  have hN : cfg0.N = 18 := N_0
  have hlt : a.val / 1024 < cfg0.N := by rw [hN]; omega
  obtain ⟨t, ht⟩ : ∃ t : Fin cfg0.N, t.val = a.val / 1024 := ⟨⟨a.val / 1024, hlt⟩, rfl⟩
  refine ⟨t, flush0_4 t, ?_⟩
  have h := ((cfg0.win 4).blk t).view.emb_mem_set (ix2 (⟨a.val % 1024, by omega⟩ : Fin 1024) n)
  rw [emb4] at h
  have e : (⟨t.val * 1024 + a.val % 1024, row_lt t ⟨a.val % 1024, by omega⟩⟩ : Fin 18432) = a :=
    Fin.ext (by show t.val * 1024 + a.val % 1024 = a.val; omega)
  rwa [e] at h

/-- The pallas_call's array after the run: the flat scaled product. -/
theorem final (c : Dev nD) : (dats m 0 c).arrAt 4 cfg0.N = flatOf m c :=
  (dats m 0 c).arrAt_eq_of_cover 4 (flatOf m c) (fun t _ => flushed_eq m c t) covered

/-- The tokens as the pallas_call is given them: the argument, flattened by the host. -/
theorem V_main_v0 (c : Dev nD) : V m c main_v0
    = shapeCast S18432x1536 (m ((c : Thread nD τ).loc main_arg0)) shapeCasts_S3x6144x1536_S18432x1536 := by
  show StableHlo.after hostOps0 _ _ = _
  unfold hostOps0
  after_results
  rfl

/-- The token scales as the pallas_call is given them: the argument, laid out as one row by the host. -/
theorem V_main_v1 (c : Dev nD) : V m c main_v1
    = shapeCast S1x18432 (m ((c : Thread nD τ).loc main_arg1)) shapeCasts_S3x6144x1_S1x18432 := by
  show StableHlo.after hostOps0 _ _ = _
  unfold hostOps0
  after_results
  rfl

/-- The scaled product of device `c`'s arguments: what the result array is shown to hold. -/
abbrev result (c : Dev nD) : Buf (Elt Ideal) ((c : Thread nD τ).loc main_v3) :=
  Linear.linear (m ((c : Thread nD τ).loc main_arg0)) (m ((c : Thread nD τ).loc main_arg1))
    (m ((c : Thread nD τ).loc main_arg2)) (m ((c : Thread nD τ).loc main_arg3))

/-- The host's last reshape leaves the scaled product of the arguments in the result array. -/
theorem tail_eq (c : Dev nD) : Pipeline.afterTail₀ cfgs (dats m) 0 (V0 m) [hostOps1] c main_v3 = result m c := by
  have e : Pipeline.afterTail₀ cfgs (dats m) 0 (V0 m) [hostOps1] c main_v3
      = shapeCast S3x6144x1280 ((dats m 0 c).arrAt 4 cfg0.N) shapeCasts_S18432x1280_S3x6144x1280 := by
    show StableHlo.after hostOps1 _ _ = _
    unfold hostOps1
    after_results
    have h := Pipeline.withArrays_arr (cfgs 0).spec launch0.win.arr_inj c (V0 m c) (fun w => (dats m 0 c).arrAt w (cfgs 0).N) 4
    exact congrArg (fun z => shapeCast S3x6144x1280 z shapeCasts_S18432x1280_S3x6144x1280) h
  rw [e, final, flatOf, V_main_v0, V_main_v1, V_main_arg2, V_main_arg3]
  exact Linear.flat_unfold _ _ _ _ _ _ _

/-- The run, read: the result array at the scaled product of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨((h.1 c).2 main_v3 (Pipeline.mem_restRefs_of main_v3 (by decide) (by decide))).trans (tail_eq m c), h.2 c⟩)
    (θ_run_and (run_main m ρ) (unchanged m ρ))

end Cert.KernelIdeal.Array

end
-- ==== Proof.Reference.lean ====
/-
  What the reference computes: its pallas_call has no grid, so its one payload over the whole arguments is its result, and that
  payload is the scaled product.
-/
module

public import proofs.«01_k».proof.Proof.Gen.ReferenceIdeal.Value
public import proofs.«01_k».proof.Proof.Linear

@[expose] public section

set_option maxRecDepth 16384

noncomputable section

namespace Cert.ReferenceIdeal.Whole

open Cert.ReferenceIdeal Cert.ReferenceIdeal.Gen Idealize.ShloMosaic

/-- The reference's result is the scaled product of its arguments. -/
theorem value_eq (x : Vec Ideal S3x6144x1536 .fp8e4m3) (xs : Vec Ideal S3x6144x1 .f32) (w : Vec Ideal S1536x1280 .fp8e4m3)
    (ws : Vec Ideal S1280 .f32) : Cert.ReferenceIdeal.Value.G4 x xs w ws = Linear.linear x xs w ws := by
  funext i
  idx_vars i
  pointwise [Cert.ReferenceIdeal.Value.G4, k0_pay1, Linear.linear]

end Cert.ReferenceIdeal.Whole

end
-- ==== Proof.lean ====
/-
  The proof of `Cert.Claim`: the three programs run to their ends and leave their arguments unchanged, with every semaphore
  counter at zero (the generated frames); the idealized kernel is the kernel with its floats read as extended reals; and over
  the extended reals the kernel and the reference leave the same result (`algebraic`, from `Array.run` and `Whole.value_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- `Cert.algebraic_KernelIdeal_ReferenceIdeal`: both run, and from equal arguments both leave the scaled product of them. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Array.result m c, Cert.KernelIdeal.Array.run m g, ?_⟩
  refine (θ_run (Cert.ReferenceIdeal.defs (F := Ideal)) _ _).mono (fun r h c => ?_)
    (Cert.ReferenceIdeal.Value.run (F := Ideal) m' g')
  obtain ⟨hv, h⟩ := h c
  obtain ⟨e0, e1, e2, e3⟩ := hargs c
  refine ⟨hv.trans ?_, h⟩
  rw [e0, e1, e2, e3]
  exact Cert.ReferenceIdeal.Whole.value_eq _ _ _ _

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, trivial, algebraic⟩

end Cert.Proof

end
